-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x2048x512 : Shape := ⟨3, ![32, 2048, 512]⟩
abbrev S1536x512 : Shape := ⟨2, ![1536, 512]⟩
abbrev S1536 : Shape := ⟨1, ![1536]⟩
abbrev S512x1536 : Shape := ⟨2, ![512, 1536]⟩
abbrev S1x1536 : Shape := ⟨2, ![1, 1536]⟩
abbrev S1x2048x512 : Shape := ⟨3, ![1, 2048, 512]⟩
abbrev S2056x1536 : Shape := ⟨2, ![2056, 1536]⟩
abbrev S8x1536 : Shape := ⟨2, ![8, 1536]⟩
abbrev S1x512x512 : Shape := ⟨3, ![1, 512, 512]⟩
abbrev S512x512 : Shape := ⟨2, ![512, 512]⟩
abbrev S1x512 : Shape := ⟨2, ![1, 512]⟩
abbrev S520x1536 : Shape := ⟨2, ![520, 1536]⟩
abbrev S520x512 : Shape := ⟨2, ![520, 512]⟩
abbrev S519x512 : Shape := ⟨2, ![519, 512]⟩

abbrev nBuf : Space → Nat
  | .hbm => 10
  | .vmem => 9
  | .smem => 0
  | _ => 0

abbrev bufTy : (tb : Table) → Fin (tcTables nBuf tb) → BufTy
  | .hbm, ⟨0, _⟩ => ⟨S32x2048x512, .f32⟩
  | .hbm, ⟨1, _⟩ => ⟨S1536x512, .f32⟩
  | .hbm, ⟨2, _⟩ => ⟨S1536x512, .f32⟩
  | .hbm, ⟨3, _⟩ => ⟨S1536, .f32⟩
  | .hbm, ⟨4, _⟩ => ⟨S1536, .f32⟩
  | .hbm, ⟨5, _⟩ => ⟨S512x1536, .f32⟩
  | .hbm, ⟨6, _⟩ => ⟨S512x1536, .f32⟩
  | .hbm, ⟨7, _⟩ => ⟨S1x1536, .f32⟩
  | .hbm, ⟨8, _⟩ => ⟨S1x1536, .f32⟩
  | .hbm, ⟨9, _⟩ => ⟨S32x2048x512, .f32⟩
  | .local _ .vmem, ⟨0, _⟩ => ⟨S1x2048x512, .f32⟩
  | .local _ .vmem, ⟨1, _⟩ => ⟨S1x2048x512, .f32⟩
  | .local _ .vmem, ⟨2, _⟩ => ⟨S512x1536, .f32⟩
  | .local _ .vmem, ⟨3, _⟩ => ⟨S512x1536, .f32⟩
  | .local _ .vmem, ⟨4, _⟩ => ⟨S1x1536, .f32⟩
  | .local _ .vmem, ⟨5, _⟩ => ⟨S1x1536, .f32⟩
  | .local _ .vmem, ⟨6, _⟩ => ⟨S1x2048x512, .f32⟩
  | .local _ .vmem, ⟨7, _⟩ => ⟨S1x2048x512, .f32⟩
  | .local _ .vmem, ⟨8, _⟩ => ⟨S2056x1536, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32x2048x512 : Shape := ⟨3, ![32, 2048, 512]⟩
abbrev S1536x512 : Shape := ⟨2, ![1536, 512]⟩
abbrev S1536 : Shape := ⟨1, ![1536]⟩
abbrev S_ : Shape := ⟨0, ![]⟩
abbrev S32x2050x512 : Shape := ⟨3, ![32, 2050, 512]⟩
abbrev S32x2050x1536 : Shape := ⟨3, ![32, 2050, 1536]⟩
abbrev S1x1x1536 : Shape := ⟨3, ![1, 1, 1536]⟩
abbrev S32x2048x1536 : Shape := ⟨3, ![32, 2048, 1536]⟩

abbrev nBuf : Space → Nat
  | .hbm => 128
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S1536x512, .f32⟩
  | .hbm, ⟨2, _⟩ => ⟨S1536x512, .f32⟩
  | .hbm, ⟨3, _⟩ => ⟨S1536, .f32⟩
  | .hbm, ⟨4, _⟩ => ⟨S1536, .f32⟩
  | .hbm, ⟨5, _⟩ => ⟨S_, .i32⟩
  | .hbm, ⟨6, _⟩ => ⟨S_, .f32⟩
  | .hbm, ⟨7, _⟩ => ⟨S32x2050x512, .f32⟩
  | .hbm, ⟨8, _⟩ => ⟨S32x2050x1536, .f32⟩
  | .hbm, ⟨9, _⟩ => ⟨S1x1x1536, .f32⟩
  | .hbm, ⟨10, _⟩ => ⟨S32x2050x1536, .f32⟩
  | .hbm, ⟨11, _⟩ => ⟨S32x2050x1536, .f32⟩
  | .hbm, ⟨12, _⟩ => ⟨S_, .f32⟩
  | .hbm, ⟨13, _⟩ => ⟨S32x2048x512, .f32⟩
  | .hbm, ⟨14, _⟩ => ⟨S32x2048x1536, .f32⟩
  | .hbm, ⟨15, _⟩ => ⟨S32x2048x1536, .f32⟩
  | .hbm, ⟨16, _⟩ => ⟨S1x1x1536, .f32⟩
  | .hbm, ⟨17, _⟩ => ⟨S32x2048x1536, .f32⟩
  | .hbm, ⟨18, _⟩ => ⟨S32x2048x1536, .f32⟩
  | .hbm, ⟨19, _⟩ => ⟨S32x2048x512, .f32⟩
  | .hbm, ⟨20, _⟩ => ⟨S32x2048x512, .f32⟩
  | .hbm, ⟨21, _⟩ => ⟨S32x2048x512, .f32⟩
  | .hbm, ⟨22, _⟩ => ⟨S32x2048x512, .f32⟩
  | .hbm, ⟨23, _⟩ => ⟨S32x2048x512, .f32⟩
  | .hbm, ⟨24, _⟩ => ⟨S32x2048x512, .f32⟩
  | .hbm, ⟨25, _⟩ => ⟨S32x2048x512, .f32⟩
  | .hbm, ⟨26, _⟩ => ⟨S32x2048x512, .f32⟩
  | .hbm, ⟨27, _⟩ => ⟨S32x2048x512, .f32⟩
  | .hbm, ⟨28, _⟩ => ⟨S_, .f32⟩
  | .hbm, ⟨29, _⟩ => ⟨S32x2048x512, .f32⟩
  | .hbm, ⟨30, _⟩ => ⟨S32x2048x512, .f32⟩
  | .hbm, ⟨31, _⟩ => ⟨S_, .f32⟩
  | .hbm, ⟨32, _⟩ => ⟨S32x2048x512, .f32⟩
  | .hbm, ⟨33, _⟩ => ⟨S32x2048x512, .f32⟩
  | .hbm, ⟨34, _⟩ => ⟨S32x2048x512, .f32⟩
  | .hbm, ⟨35, _⟩ => ⟨S32x2048x512, .f32⟩
  | .hbm, ⟨36, _⟩ => ⟨S32x2048x512, .f32⟩
  | .hbm, ⟨37, _⟩ => ⟨S_, .f32⟩
  | .hbm, ⟨38, _⟩ => ⟨S32x2048x512, .f32⟩
  | .hbm, ⟨39, _⟩ => ⟨S32x2048x512, .f32⟩
  | .hbm, ⟨40, _⟩ => ⟨S_, .f32⟩
  | .hbm, ⟨41, _⟩ => ⟨S32x2048x512, .f32⟩
  | .hbm, ⟨42, _⟩ => ⟨S32x2048x512, .f32⟩
  | .hbm, ⟨43, _⟩ => ⟨S32x2048x512, .f32⟩
  | .hbm, ⟨44, _⟩ => ⟨S32x2048x512, .f32⟩
  | .hbm, ⟨45, _⟩ => ⟨S32x2048x512, .f32⟩
  | .hbm, ⟨46, _⟩ => ⟨S_, .f32⟩
  | .hbm, ⟨47, _⟩ => ⟨S32x2048x512, .f32⟩
  | .hbm, ⟨48, _⟩ => ⟨S32x2048x512, .f32⟩
  | .hbm, ⟨49, _⟩ => ⟨S32x2048x512, .f32⟩
  | .hbm, ⟨50, _⟩ => ⟨S32x2048x512, .f32⟩
  | .hbm, ⟨51, _⟩ => ⟨S32x2048x512, .f32⟩
  | .hbm, ⟨52, _⟩ => ⟨S32x2048x1536, .f32⟩
  | .hbm, ⟨53, _⟩ => ⟨S32x2048x1536, .f32⟩
  | .hbm, ⟨54, _⟩ => ⟨S1x1x1536, .f32⟩
  | .hbm, ⟨55, _⟩ => ⟨S32x2048x1536, .f32⟩
  | .hbm, ⟨56, _⟩ => ⟨S32x2048x1536, .f32⟩
  | .hbm, ⟨57, _⟩ => ⟨S32x2048x512, .f32⟩
  | .hbm, ⟨58, _⟩ => ⟨S32x2048x512, .f32⟩
  | .hbm, ⟨59, _⟩ => ⟨S32x2048x512, .f32⟩
  | .hbm, ⟨60, _⟩ => ⟨S32x2048x512, .f32⟩
  | .hbm, ⟨61, _⟩ => ⟨S32x2048x512, .f32⟩
  | .hbm, ⟨62, _⟩ => ⟨S32x2048x512, .f32⟩
  | .hbm, ⟨63, _⟩ => ⟨S32x2048x512, .f32⟩
  | .hbm, ⟨64, _⟩ => ⟨S32x2048x512, .f32⟩
  | .hbm, ⟨65, _⟩ => ⟨S32x2048x512, .f32⟩
  | .hbm, ⟨66, _⟩ => ⟨S_, .f32⟩
  | .hbm, ⟨67, _⟩ => ⟨S32x2048x512, .f32⟩
  | .hbm, ⟨68, _⟩ => ⟨S32x2048x512, .f32⟩
  | .hbm, ⟨69, _⟩ => ⟨S_, .f32⟩
  | .hbm, ⟨70, _⟩ => ⟨S32x2048x512, .f32⟩
  | .hbm, ⟨71, _⟩ => ⟨S32x2048x512, .f32⟩
  | .hbm, ⟨72, _⟩ => ⟨S32x2048x512, .f32⟩
  | .hbm, ⟨73, _⟩ => ⟨S32x2048x512, .f32⟩
  | .hbm, ⟨74, _⟩ => ⟨S32x2048x512, .f32⟩
  | .hbm, ⟨75, _⟩ => ⟨S_, .f32⟩
  | .hbm, ⟨76, _⟩ => ⟨S32x2048x512, .f32⟩
  | .hbm, ⟨77, _⟩ => ⟨S32x2048x512, .f32⟩
  | .hbm, ⟨78, _⟩ => ⟨S_, .f32⟩
  | .hbm, ⟨79, _⟩ => ⟨S32x2048x512, .f32⟩
  | .hbm, ⟨80, _⟩ => ⟨S32x2048x512, .f32⟩
  | .hbm, ⟨81, _⟩ => ⟨S32x2048x512, .f32⟩
  | .hbm, ⟨82, _⟩ => ⟨S32x2048x512, .f32⟩
  | .hbm, ⟨83, _⟩ => ⟨S32x2048x512, .f32⟩
  | .hbm, ⟨84, _⟩ => ⟨S_, .f32⟩
  | .hbm, ⟨85, _⟩ => ⟨S32x2048x512, .f32⟩
  | .hbm, ⟨86, _⟩ => ⟨S32x2048x512, .f32⟩
  | .hbm, ⟨87, _⟩ => ⟨S32x2048x512, .f32⟩
  | .hbm, ⟨88, _⟩ => ⟨S32x2048x512, .f32⟩
  | .hbm, ⟨89, _⟩ => ⟨S32x2048x512, .f32⟩
  | .hbm, ⟨90, _⟩ => ⟨S32x2048x1536, .f32⟩
  | .hbm, ⟨91, _⟩ => ⟨S32x2048x1536, .f32⟩
  | .hbm, ⟨92, _⟩ => ⟨S1x1x1536, .f32⟩
  | .hbm, ⟨93, _⟩ => ⟨S32x2048x1536, .f32⟩
  | .hbm, ⟨94, _⟩ => ⟨S32x2048x1536, .f32⟩
  | .hbm, ⟨95, _⟩ => ⟨S32x2048x512, .f32⟩
  | .hbm, ⟨96, _⟩ => ⟨S32x2048x512, .f32⟩
  | .hbm, ⟨97, _⟩ => ⟨S32x2048x512, .f32⟩
  | .hbm, ⟨98, _⟩ => ⟨S32x2048x512, .f32⟩
  | .hbm, ⟨99, _⟩ => ⟨S32x2048x512, .f32⟩
  | .hbm, ⟨100, _⟩ => ⟨S32x2048x512, .f32⟩
  | .hbm, ⟨101, _⟩ => ⟨S32x2048x512, .f32⟩
  | .hbm, ⟨102, _⟩ => ⟨S32x2048x512, .f32⟩
  | .hbm, ⟨103, _⟩ => ⟨S32x2048x512, .f32⟩
  | .hbm, ⟨104, _⟩ => ⟨S_, .f32⟩
  | .hbm, ⟨105, _⟩ => ⟨S32x2048x512, .f32⟩
  | .hbm, ⟨106, _⟩ => ⟨S32x2048x512, .f32⟩
  | .hbm, ⟨107, _⟩ => ⟨S_, .f32⟩
  | .hbm, ⟨108, _⟩ => ⟨S32x2048x512, .f32⟩
  | .hbm, ⟨109, _⟩ => ⟨S32x2048x512, .f32⟩
  | .hbm, ⟨110, _⟩ => ⟨S32x2048x512, .f32⟩
  | .hbm, ⟨111, _⟩ => ⟨S32x2048x512, .f32⟩
  | .hbm, ⟨112, _⟩ => ⟨S32x2048x512, .f32⟩
  | .hbm, ⟨113, _⟩ => ⟨S_, .f32⟩
  | .hbm, ⟨114, _⟩ => ⟨S32x2048x512, .f32⟩
  | .hbm, ⟨115, _⟩ => ⟨S32x2048x512, .f32⟩
  | .hbm, ⟨116, _⟩ => ⟨S_, .f32⟩
  | .hbm, ⟨117, _⟩ => ⟨S32x2048x512, .f32⟩
  | .hbm, ⟨118, _⟩ => ⟨S32x2048x512, .f32⟩
  | .hbm, ⟨119, _⟩ => ⟨S32x2048x512, .f32⟩
  | .hbm, ⟨120, _⟩ => ⟨S32x2048x512, .f32⟩
  | .hbm, ⟨121, _⟩ => ⟨S32x2048x512, .f32⟩
  | .hbm, ⟨122, _⟩ => ⟨S_, .f32⟩
  | .hbm, ⟨123, _⟩ => ⟨S32x2048x512, .f32⟩
  | .hbm, ⟨124, _⟩ => ⟨S32x2048x512, .f32⟩
  | .hbm, ⟨125, _⟩ => ⟨S32x2048x512, .f32⟩
  | .hbm, ⟨126, _⟩ => ⟨S32x2048x512, .f32⟩
  | .hbm, ⟨127, _⟩ => ⟨S32x2048x512, .f32⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_5 : Ref sig .tc := ⟨.hbm, 66, rfl⟩
abbrev main_v53 : Ref sig .tc := ⟨.hbm, 67, rfl⟩
abbrev main_v54 : Ref sig .tc := ⟨.hbm, 68, rfl⟩
abbrev main_cst_6 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_7 : Ref sig .tc := ⟨.hbm, 75, rfl⟩
abbrev main_v60 : Ref sig .tc := ⟨.hbm, 76, rfl⟩
abbrev main_v61 : Ref sig .tc := ⟨.hbm, 77, rfl⟩
abbrev main_cst_8 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_9 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_cst_10 : Ref sig .tc := ⟨.hbm, 104, rfl⟩
abbrev main_v86 : Ref sig .tc := ⟨.hbm, 105, rfl⟩
abbrev main_v87 : Ref sig .tc := ⟨.hbm, 106, rfl⟩
abbrev main_cst_11 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_cst_12 : Ref sig .tc := ⟨.hbm, 113, rfl⟩
abbrev main_v93 : Ref sig .tc := ⟨.hbm, 114, rfl⟩
abbrev main_v94 : Ref sig .tc := ⟨.hbm, 115, rfl⟩
abbrev main_cst_13 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_cst_14 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩

abbrev nD : Nat := 1
abbrev τ : Topo := Topo.v7x

variable {F : FTy → Type} [FloatOps F]
-- ==== Proof.Gru.lean ====
/-
  The recurrence both programs compute, over the extended reals: one gated recurrent step, and three steps over a
  sliding window of three rows. No program appears here.
-/
module

public import proofs.«01_k».proof.Defs
public import Idealize.ShloMosaic.Lib.Pointwise

@[expose] public section

noncomputable section

namespace Gru

open Idealize.ShloMosaic

/-- One gate: the logistic function of the sum of the input's part and the state's part. -/
def gate (a b : EReal) : EReal := Ideal.logistic (a + b)

/-- One entry of the new state. `ar az an` are the input's contributions to the reset gate, the update gate and the
    candidate; `hr hz hn` are the state's contributions to the same three; `h` is the old state's entry. -/
def cell (ar az an hr hz hn h : EReal) : EReal :=
  (1 - gate az hz) * Ideal.tanh (an + gate ar hr * hn) + gate az hz * h

/-- The three blocks of 512 among 1536 columns: column `512 q + d` for `q = 0, 1, 2`. -/
def col (q : Fin 3) (d : Fin 512) : Fin 1536 := ⟨q.val * 512 + d.val, by omega⟩

/-- What the state contributes to column `c`: its product with row `c` of the recurrent weights, plus the bias. -/
def proj (W : Fin 1536 → Fin 512 → EReal) (b : Fin 1536 → EReal) (h : Fin 512 → EReal) (c : Fin 1536) : EReal :=
  (∑ k : Fin 512, h k * W c k) + b c

/-- One step of the recurrence, from the input's contributions `g` and the old state `h`. -/
def step (W : Fin 1536 → Fin 512 → EReal) (b : Fin 1536 → EReal) (g : Fin 1536 → EReal) (h : Fin 512 → EReal)
    (d : Fin 512) : EReal :=
  cell (g (col 0 d)) (g (col 1 d)) (g (col 2 d)) (proj W b h (col 0 d)) (proj W b h (col 1 d)) (proj W b h (col 2 d))
    (h d)

/-- The first step, written without the state, which is zero. -/
def start (b : Fin 1536 → EReal) (g : Fin 1536 → EReal) (d : Fin 512) : EReal :=
  (1 - gate (g (col 1 d)) (b (col 1 d))) *
    Ideal.tanh (g (col 2 d) + gate (g (col 0 d)) (b (col 0 d)) * b (col 2 d))

/-- Three steps from the zero state, over the rows `g0`, `g1`, `g2` in this order. -/
def window (W : Fin 1536 → Fin 512 → EReal) (b : Fin 1536 → EReal) (g0 g1 g2 : Fin 1536 → EReal) : Fin 512 → EReal :=
  step W b g2 (step W b g1 (start b g0))

/-- The zero state contributes the bias alone: every product with zero is zero, whatever the weight. -/
theorem proj_zero (W : Fin 1536 → Fin 512 → EReal) (b : Fin 1536 → EReal) (c : Fin 1536) :
    proj W b (fun _ => 0) c = b c := by
  simp only [proj, zero_mul, Finset.sum_const_zero, zero_add]

/-- A step from the zero state is the first step. -/
theorem step_zero (W : Fin 1536 → Fin 512 → EReal) (b g : Fin 1536 → EReal) :
    step W b g (fun _ => 0) = start b g := by
  funext d
  simp only [step, start, cell, proj_zero, mul_zero, add_zero]

/-- Row `p` of the padded input: two rows of zeros, then the 2048 rows of `x`. -/
def padRow (x : Fin 2048 → Fin 512 → EReal) (p : ℕ) (k : Fin 512) : EReal :=
  if h : 2 ≤ p ∧ p < 2050 then x ⟨p - 2, by omega⟩ k else 0

/-- What row `p` of the padded input contributes to column `c`. -/
def contrib (Wi : Fin 1536 → Fin 512 → EReal) (bi : Fin 1536 → EReal) (x : Fin 2048 → Fin 512 → EReal) (p : ℕ)
    (c : Fin 1536) : EReal :=
  proj Wi bi (padRow x p) c

/-- The two rows of zeros at the top of the padded input contribute the bias alone. -/
theorem contrib_top (Wi : Fin 1536 → Fin 512 → EReal) (bi : Fin 1536 → EReal) (x : Fin 2048 → Fin 512 → EReal) (p : ℕ)
    (hp : p < 2) (c : Fin 1536) : contrib Wi bi x p c = bi c := by
  rw [contrib, show padRow x p = fun _ => 0 from funext fun k => dif_neg (by omega), proj_zero]

/-- Row `l` of the result: three steps over the rows `l`, `l + 1`, `l + 2` of the padded input. -/
def result (Wi Wh : Fin 1536 → Fin 512 → EReal) (bi bh : Fin 1536 → EReal) (x : Fin 2048 → Fin 512 → EReal) (l : ℕ) :
    Fin 512 → EReal :=
  window Wh bh (contrib Wi bi x l) (contrib Wi bi x (l + 1)) (contrib Wi bi x (l + 2))

end Gru

end
-- ==== Proof.Chunk.lean ====
/-
  The kernel computes its 2048 rows in four chunks of 512 rows. This module names the vector operations of one chunk
  and says what each of them holds at an index.
-/
module

public import proofs.«01_k».proof.Proof.Gru
public import proofs.«01_k».proof.Proof.Gen.KernelIdeal.Skeleton
public import Idealize.ShloMosaic.Lib.Pipeline.ValueKit

@[expose] public section

set_option maxRecDepth 16384

noncomputable section

namespace Cert.KernelIdeal.Chunk

open Idealize.ShloMosaic Idealize.SL.Sem Cert.KernelIdeal Cert.KernelIdeal.Gen

/-- The first step on 520 rows, from the three parts of the recurrent bias and the input's contributions `g`. -/
def first (br bz bn : FVec Ideal S1x512 .f32) (g : FVec Ideal S520x1536 .f32) : FVec Ideal S520x512 .f32 :=
  mulf (subf (broadcast S520x512 (Scalar.ofBits .f32 0x3F800000#32))
      (logistic (addf (extractStridedSlice S520x512 ![0, 512] g slices_S520x1536_o0_512_S520x512)
        (broadcastTo S520x512 bz broadcasts_S1x512_S520x512))))
    (tanh (addf (extractStridedSlice S520x512 ![0, 1024] g slices_S520x1536_o0_1024_S520x512)
      (mulf (logistic (addf (extractStridedSlice S520x512 ![0, 0] g slices_S520x1536_o0_0_S520x512)
          (broadcastTo S520x512 br broadcasts_S1x512_S520x512)))
        (broadcastTo S520x512 bn broadcasts_S1x512_S520x512))))

/-- The rows moved down by one, with a row of zeros on top. -/
def shift (h : FVec Ideal S520x512 .f32) : FVec Ideal S520x512 .f32 :=
  concatenate S520x512 0 [⟨S1x512, broadcast S1x512 (Scalar.ofBits .f32 0x00000000#32)⟩,
    ⟨S519x512, extractStridedSlice S519x512 ![0, 0] h slices_S520x512_o0_0_S519x512⟩]
    concatenates_S1x512_S519x512_S520x512_d0

/-- The state's contributions on 520 rows: its product with the transposed weights, plus the bias. -/
def proj520 (b : FVec Ideal S1x1536 .f32) (w : FVec Ideal S512x1536 .f32) (h : FVec Ideal S520x512 .f32) :
    FVec Ideal S520x1536 .f32 :=
  addf (matmul dot_S520x512_S512x1536_S520x1536_1_0_0_1_n_n none h w (constant S520x1536 .f32 0x00000000#32))
    (broadcastTo S520x1536 b broadcasts_S1x1536_S520x1536)

/-- The second step on 520 rows, from the input's contributions `g`, the state's `p` and the state `h`. -/
def step520 (g p : FVec Ideal S520x1536 .f32) (h : FVec Ideal S520x512 .f32) : FVec Ideal S520x512 .f32 :=
  have z : FVec Ideal S520x512 .f32 :=
    logistic (addf (extractStridedSlice S520x512 ![0, 512] g slices_S520x1536_o0_512_S520x512)
      (extractStridedSlice S520x512 ![0, 512] p slices_S520x1536_o0_512_S520x512))
  addf (mulf (subf (broadcast S520x512 (Scalar.ofBits .f32 0x3F800000#32)) z)
      (tanh (addf (extractStridedSlice S520x512 ![0, 1024] g slices_S520x1536_o0_1024_S520x512)
        (mulf (logistic (addf (extractStridedSlice S520x512 ![0, 0] g slices_S520x1536_o0_0_S520x512)
            (extractStridedSlice S520x512 ![0, 0] p slices_S520x1536_o0_0_S520x512)))
          (extractStridedSlice S520x512 ![0, 1024] p slices_S520x1536_o0_1024_S520x512)))))
    (mulf z h)

/-- The 512 rows of the state from row 7 on. -/
def tail7 (h : FVec Ideal S520x512 .f32) : FVec Ideal S512x512 .f32 :=
  extractStridedSlice S512x512 ![7, 0] h slices_S520x512_o7_0_S512x512

/-- The 512 rows of the input's contributions from row 8 on. -/
def tail8 (g : FVec Ideal S520x1536 .f32) : FVec Ideal S512x1536 .f32 :=
  extractStridedSlice S512x1536 ![8, 0] g slices_S520x1536_o8_0_S512x1536

/-- The state's contributions on 512 rows. -/
def proj512 (b : FVec Ideal S1x1536 .f32) (w : FVec Ideal S512x1536 .f32) (h : FVec Ideal S512x512 .f32) :
    FVec Ideal S512x1536 .f32 :=
  addf (matmul dot_S512x512_S512x1536_S512x1536_1_0_0_1_n_n none h w (constant S512x1536 .f32 0x00000000#32))
    (broadcastTo S512x1536 b broadcasts_S1x1536_S512x1536)

/-- The third step on 512 rows, from the input's contributions `g`, the state's `p` and the state `h`. -/
def step512 (g p : FVec Ideal S512x1536 .f32) (h : FVec Ideal S512x512 .f32) : FVec Ideal S512x512 .f32 :=
  have z : FVec Ideal S512x512 .f32 :=
    logistic (addf (extractStridedSlice S512x512 ![0, 512] g slices_S512x1536_o0_512_S512x512)
      (extractStridedSlice S512x512 ![0, 512] p slices_S512x1536_o0_512_S512x512))
  addf (mulf (subf (broadcast S512x512 (Scalar.ofBits .f32 0x3F800000#32)) z)
      (tanh (addf (extractStridedSlice S512x512 ![0, 1024] g slices_S512x1536_o0_1024_S512x512)
        (mulf (logistic (addf (extractStridedSlice S512x512 ![0, 0] g slices_S512x1536_o0_0_S512x512)
            (extractStridedSlice S512x512 ![0, 0] p slices_S512x1536_o0_0_S512x512)))
          (extractStridedSlice S512x512 ![0, 1024] p slices_S512x1536_o0_1024_S512x512)))))
    (mulf z h)

/-- The state after two steps, on 512 rows. -/
def second (b : FVec Ideal S1x1536 .f32) (w : FVec Ideal S512x1536 .f32) (g : FVec Ideal S520x1536 .f32) :
    FVec Ideal S512x512 .f32 :=
  have h := shift (first (k0_pay8 b) (k0_pay9 b) (k0_pay10 b) g)
  tail7 (step520 g (proj520 (k0_pay3 b) (k0_pay5 w) h) h)

/-- One chunk: 512 rows of the result, from the bias, the weights and 520 rows of the scratch. -/
def chunk (b : FVec Ideal S1x1536 .f32) (w : FVec Ideal S512x1536 .f32) (g : FVec Ideal S520x1536 .f32) :
    FVec Ideal S1x512x512 .f32 :=
  shapeCast S1x512x512 (step512 (tail8 g) (proj512 (k0_pay3 b) (k0_pay5 w) (second b w g)) (second b w g))
    shapeCasts_S512x512_S1x512x512

/-! ## The four chunks as the kernel writes them -/

/-- The first chunk's stored vector is `chunk`. -/
theorem chunk_one (b : FVec Ideal S1x1536 .f32) (w : FVec Ideal S512x1536 .f32) (g : FVec Ideal S520x1536 .f32) :
    k0_pay18 (k0_pay12 (k0_pay3 b) (k0_pay5 w) (k0_pay8 b) (k0_pay9 b) (k0_pay10 b) g)
      (k0_pay14 (k0_pay3 b) (k0_pay5 w) (k0_pay8 b) (k0_pay9 b) (k0_pay10 b) g)
      (k0_pay15 (k0_pay3 b) (k0_pay5 w) (k0_pay8 b) (k0_pay9 b) (k0_pay10 b) g)
      (k0_pay16 (k0_pay3 b) (k0_pay5 w) (k0_pay8 b) (k0_pay9 b) (k0_pay10 b) g) (k0_pay17 g) = chunk b w g := rfl

/-- The second chunk's stored vector is `chunk`. -/
theorem chunk_two (b : FVec Ideal S1x1536 .f32) (w : FVec Ideal S512x1536 .f32) (g : FVec Ideal S520x1536 .f32) :
    k0_pay22 (k0_pay3 b) (k0_pay5 w) g (k0_pay20 (k0_pay8 b) (k0_pay9 b) (k0_pay10 b) g)
      (k0_pay21 (k0_pay3 b) (k0_pay5 w) (k0_pay8 b) (k0_pay9 b) (k0_pay10 b) g) = chunk b w g := rfl

/-- The third chunk's stored vector is `chunk`. -/
theorem chunk_three (b : FVec Ideal S1x1536 .f32) (w : FVec Ideal S512x1536 .f32) (g : FVec Ideal S520x1536 .f32) :
    k0_pay29 (k0_pay25 (k0_pay3 b) (k0_pay5 w) (k0_pay8 b) (k0_pay9 b) (k0_pay10 b) g) (k0_pay26 g)
      (k0_pay27 (k0_pay3 b) (k0_pay5 w) (k0_pay8 b) (k0_pay9 b) (k0_pay10 b) g) (k0_pay28 g) = chunk b w g := rfl

/-- The fourth chunk's stored vector is `chunk`. -/
theorem chunk_four (b : FVec Ideal S1x1536 .f32) (w : FVec Ideal S512x1536 .f32) (g : FVec Ideal S520x1536 .f32) :
    k0_pay1 (k0_pay3 b) (k0_pay5 w) g (k0_pay30 (k0_pay8 b) (k0_pay9 b) (k0_pay10 b) g)
      (k0_pay31 (k0_pay3 b) (k0_pay5 w) (k0_pay8 b) (k0_pay9 b) (k0_pay10 b) g)
      (k0_pay32 (k0_pay3 b) (k0_pay5 w) (k0_pay8 b) (k0_pay9 b) (k0_pay10 b) g)
      (k0_pay33 (k0_pay3 b) (k0_pay5 w) (k0_pay8 b) (k0_pay9 b) (k0_pay10 b) g) = chunk b w g := rfl

/-! ## One chunk at an index -/

section AtIndex

variable (b : FVec Ideal S1x1536 .f32) (w : FVec Ideal S512x1536 .f32) (g : FVec Ideal S520x1536 .f32)

/-- The bias as a function of the column. -/
abbrev bias : Fin 1536 → EReal := fun c => b (ix2 0 c)
/-- The transposed weights as a function of the column and the contracted coordinate. -/
abbrev weights : Fin 1536 → Fin 512 → EReal := fun c k => w (ix2 k c)
/-- A row of the input's contributions. -/
abbrev row (s : Fin 520) : Fin 1536 → EReal := fun c => g (ix2 s c)

/-- The first step's state at row `s` is the recurrence's first step on that row. -/
theorem first_at (s : Fin 520) (d : Fin 512) :
    first (k0_pay8 b) (k0_pay9 b) (k0_pay10 b) g (ix2 s d) = Gru.start (bias b) (row g s) d := by
  pointwise [first, k0_pay8, k0_pay9, k0_pay10, k0_pay3, Gru.start, Gru.gate, Gru.col] <;> rfl

/-- Below the top row, the shifted rows are the rows one above. -/
theorem shift_at (h : FVec Ideal S520x512 .f32) (s t : Fin 520) (hst : s.val = t.val + 1) (k : Fin 512) :
    shift h (ix2 s k) = h (ix2 t k) := by
  pointwise [shift]
  rw [dif_neg (by omega)]
  blk_ext

/-- The state's contributions on 520 rows, at row `s` and column `c`. -/
theorem proj520_at (h : FVec Ideal S520x512 .f32) (s : Fin 520) (c : Fin 1536) :
    proj520 (k0_pay3 b) (k0_pay5 w) h (ix2 s c) = Gru.proj (weights w) (bias b) (fun k => h (ix2 s k)) c := by
  pointwise [proj520, k0_pay3, k0_pay5, Gru.proj] <;> rfl

/-- The state's contributions on 512 rows, at row `s` and column `c`. -/
theorem proj512_at (h : FVec Ideal S512x512 .f32) (s : Fin 512) (c : Fin 1536) :
    proj512 (k0_pay3 b) (k0_pay5 w) h (ix2 s c) = Gru.proj (weights w) (bias b) (fun k => h (ix2 s k)) c := by
  pointwise [proj512, k0_pay3, k0_pay5, Gru.proj] <;> rfl

/-- A step on 520 rows is the cell at each of its entries. -/
theorem step520_at (p : FVec Ideal S520x1536 .f32) (h : FVec Ideal S520x512 .f32) (s : Fin 520) (d : Fin 512) :
    step520 g p h (ix2 s d) = Gru.cell (g (ix2 s (Gru.col 0 d))) (g (ix2 s (Gru.col 1 d))) (g (ix2 s (Gru.col 2 d)))
      (p (ix2 s (Gru.col 0 d))) (p (ix2 s (Gru.col 1 d))) (p (ix2 s (Gru.col 2 d))) (h (ix2 s d)) := by
  pointwise [step520, Gru.cell, Gru.gate, Gru.col] <;> rfl

/-- A step on 512 rows is the cell at each of its entries. -/
theorem step512_at (q p : FVec Ideal S512x1536 .f32) (h : FVec Ideal S512x512 .f32) (s d : Fin 512) :
    step512 q p h (ix2 s d) = Gru.cell (q (ix2 s (Gru.col 0 d))) (q (ix2 s (Gru.col 1 d))) (q (ix2 s (Gru.col 2 d)))
      (p (ix2 s (Gru.col 0 d))) (p (ix2 s (Gru.col 1 d))) (p (ix2 s (Gru.col 2 d))) (h (ix2 s d)) := by
  pointwise [step512, Gru.cell, Gru.gate, Gru.col] <;> rfl

/-- The state after two steps, at row `r`, is two steps of the recurrence over the scratch rows `r + 6` and `r + 7`. -/
theorem second_at (r k : Fin 512) :
    second b w g (ix2 r k) = Gru.step (weights w) (bias b) (row g ⟨r.val + 7, by omega⟩)
      (Gru.start (bias b) (row g ⟨r.val + 6, by omega⟩)) k := by
  have h7 : ∀ h : FVec Ideal S520x512 .f32, tail7 h (ix2 r k) = h (ix2 ⟨r.val + 7, by omega⟩ k) := fun h => by
    pointwise [tail7]; blk_ext
  have hs : ∀ k : Fin 512, shift (first (k0_pay8 b) (k0_pay9 b) (k0_pay10 b) g) (ix2 ⟨r.val + 7, by omega⟩ k) =
      Gru.start (bias b) (row g ⟨r.val + 6, by omega⟩) k := fun k =>
    (shift_at _ _ ⟨r.val + 6, by omega⟩ rfl k).trans (first_at b g _ k)
  rw [second, h7, step520_at, proj520_at, proj520_at, proj520_at, hs, funext hs]
  rfl

/-- Entry `(r, d)` of a chunk is three steps of the recurrence over the scratch rows `r + 6`, `r + 7` and `r + 8`. -/
theorem chunk_at (r d : Fin 512) :
    chunk b w g (ix3 0 r d) = Gru.window (weights w) (bias b) (row g ⟨r.val + 6, by omega⟩)
      (row g ⟨r.val + 7, by omega⟩) (row g ⟨r.val + 8, by omega⟩) d := by
  have h8 : ∀ c : Fin 1536, tail8 g (ix2 r c) = row g ⟨r.val + 8, by omega⟩ c := fun c => by
    pointwise [tail8]; blk_ext
  have hc : ∀ v : FVec Ideal S512x512 .f32,
      shapeCast S1x512x512 v shapeCasts_S512x512_S1x512x512 (ix3 0 r d) = v (ix2 r d) := fun v => by pointwise
  rw [chunk, hc, step512_at, proj512_at, proj512_at, proj512_at, h8, h8, h8, second_at,
    funext (second_at b w g r)]
  rfl

end AtIndex

end Cert.KernelIdeal.Chunk

end
-- ==== Proof.Block.lean ====
/-
  What one grid point of the kernel leaves in its output block: the scratch buffer holds the padded input's
  contributions, each chunk reads 520 of its rows, and the four chunks' rows are the rows of the result.
-/
module

public import proofs.«01_k».proof.Proof.Chunk
public import proofs.«01_k».proof.Proof.Gen.KernelIdeal.Value
public import Idealize.ShloMosaic.Lib.Pipeline.ReadBack

@[expose] public section

set_option maxRecDepth 16384

noncomputable section

namespace Cert.KernelIdeal.Block

open Idealize.ShloMosaic Idealize.ShloMosaic.TcCoe Idealize.SL.Sem Cert.KernelIdeal Cert.KernelIdeal.Gen
open Cert.KernelIdeal.Chunk
open Idealize.ShloMosaic.Pipeline (Dat)

section Point

variable (x : FVec Ideal S1x2048x512 .f32) (wi wh : FVec Ideal S512x1536 .f32) (bi bh : FVec Ideal S1x1536 .f32)

/-- The point's block of the input by row and column. -/
abbrev rows : Fin 2048 → Fin 512 → EReal := fun p k => x (ix3 0 p k)

/-- What the scratch buffer holds: its row `s` is row `s - 6` of the padded input's contributions (the rows above the
    sixth, like the two rows below them, are the bias alone). -/
def scratch : FVec Ideal S2056x1536 .f32 := fun y =>
  Gru.contrib (weights wi) (bias bi) (rows x) ((y 0).val - 6) (y 1)

/-- The scratch at an index given by its coordinates. -/
theorem scratch_at (i : S2056x1536.Idx) (p : ℕ) (c : Fin 1536) (h0 : (i 0).val - 6 = p) (h1 : (i 1).val = c.val) :
    scratch x wi bi i = Gru.contrib (weights wi) (bias bi) (rows x) p c := by
  rw [scratch, h0, show (i 1 : Fin 1536) = c from Fin.ext h1]

/-- The eight rows stored first are the scratch's top rows. -/
theorem fill_at (y : S8x1536.Idx) (i : S2056x1536.Idx) (h0 : (i 0).val = (y 0).val) (h1 : (i 1).val = (y 1).val) :
    k0_pay6 bi y = scratch x wi bi i := by
  idx_vars y
  rw [scratch_at x wi bi i ((i 0).val - 6) y1 rfl h1, Gru.contrib_top _ _ _ _ (by have := y0.isLt; omega)]
  pointwise [k0_pay6, k0_pay2]

/-- 512 rows stored by one store, over the rows `v` of the input from row `o` on, are the scratch's rows from row
    `8 + o` on. -/
theorem tile_at (v : FVec Ideal S1x512x512 .f32) (o : ℕ) (ho : o + 512 ≤ 2048)
    (hv : ∀ s k : Fin 512, v (ix3 0 s k) = x (ix3 0 ⟨o + s.val, by omega⟩ k)) (y : S512x1536.Idx)
    (i : S2056x1536.Idx) (h0 : (i 0).val = 8 + o + (y 0).val) (h1 : (i 1).val = (y 1).val) :
    k0_pay7 bi wi v y = scratch x wi bi i := by
  idx_vars y
  rw [scratch_at x wi bi i (2 + (o + y0.val)) y1 (by omega) h1]
  have hr : Gru.padRow (rows x) (2 + (o + y0.val)) = fun k => v (ix3 0 y0 k) := funext fun k => by
    rw [Gru.padRow, dif_pos ⟨by omega, by have := y0.isLt; omega⟩, hv]
    exact congrArg (fun p => x (ix3 0 p k)) (Fin.ext (Nat.add_sub_cancel_left _ _))
  rw [Gru.contrib, hr]
  pointwise [k0_pay7, k0_pay2, k0_pay4, Gru.proj] <;> rfl

/-- The row of an index of a box of rows from `o` on, placed in the scratch. -/
theorem box_row (o n : ℕ) (inb) (y : (⟨2, ![n, 1536]⟩ : Shape).Idx) :
    ((Rect.unit (s := S2056x1536) ![o, 0] ![n, 1536] inb).idx y 0).val = o + (y 0).val :=
  Rect.idx_unit_val (s := S2056x1536) ![o, 0] ![n, 1536] inb y 0

/-- Its column is unchanged. -/
theorem box_col (o n : ℕ) (inb) (y : (⟨2, ![n, 1536]⟩ : Shape).Idx) :
    ((Rect.unit (s := S2056x1536) ![o, 0] ![n, 1536] inb).idx y 1).val = (y 1).val :=
  (Rect.idx_unit_val (s := S2056x1536) ![o, 0] ![n, 1536] inb y 1).trans (Nat.zero_add _)

/-- The eight rows stored first, as a block of the scratch. -/
theorem fill_box (inb) (y : S8x1536.Idx) :
    k0_pay6 bi y = scratch x wi bi ((Rect.unit (s := S2056x1536) ![0, 0] ![8, 1536] inb).idx y) :=
  fill_at x wi bi y _ ((box_row 0 8 inb y).trans (Nat.zero_add _)) (box_col 0 8 inb y)

/-- 512 rows stored by one store from row `q = 8 + o` on, as a block of the scratch. -/
theorem tile_box (v : FVec Ideal S1x512x512 .f32) (o q : ℕ) (hq : q = 8 + o) (ho : o + 512 ≤ 2048) (inb)
    (hv : ∀ s k : Fin 512, v (ix3 0 s k) = x (ix3 0 ⟨o + s.val, by omega⟩ k)) (y : S512x1536.Idx) :
    k0_pay7 bi wi v y = scratch x wi bi ((Rect.unit (s := S2056x1536) ![q, 0] ![512, 1536] inb).idx y) :=
  tile_at x wi bi v o ho hv y _ ((box_row q 512 inb y).trans (by rw [hq])) (box_col q 512 inb y)

/-- 520 rows of the scratch read from row `o` on, at row `s` and column `e`. -/
theorem box_at (o : ℕ) (inb) (s : Fin 520) (e : Fin 1536) :
    scratch x wi bi ((Rect.unit (s := S2056x1536) ![o, 0] ![520, 1536] inb).idx (ix2 s e)) =
      Gru.contrib (weights wi) (bias bi) (rows x) (o + s.val - 6) e :=
  scratch_at x wi bi _ _ _ (congrArg (· - 6) (box_row o 520 inb (ix2 s e))) (box_col o 520 inb (ix2 s e))

/-- An index whose row `r` satisfies `o ≤ r < o + n` lies in the box of these rows. -/
theorem mem_rows {o n : ℕ} (inb) (i : S2056x1536.Idx) {r : ℕ} (hr : (i 0).val = r) (hlo : o ≤ r) (hhi : r < o + n) :
    i ∈ (Rect.unit (s := S2056x1536) ![o, 0] ![n, 1536] inb).set := by
  rw [Rect.mem_set_unit]
  intro a
  match a with
  | 0 => exact ⟨hlo.trans_eq hr.symm, hr.trans_lt hhi⟩
  | 1 => exact ⟨Nat.zero_le _, by have : (i 1).val < 1536 := (i 1).isLt; show (i 1).val < 0 + 1536; omega⟩

/-- A load of a box after stores that are all blocks of `G` reads `G`, where the stores cover the box. -/
theorem load_of_blocks {κ : Kind} {sp : Space} {s : Shape} {e : EltTy} (v : View sig κ sp s e) (G : s.Idx → Elt Ideal e)
    (L : List (View.Piece (Elt Ideal) s e)) (B : LoadRect s) (hp : View.PiecesOf G L)
    (hc : ∀ j : B.shape.Idx, ∃ p ∈ L, B.idx j ∈ p.1.set) : v.readCov L B = fun j => G (B.idx j) := by
  rw [View.readCov_eq_canon']
  funext j
  have h := View.canon_append_of_piecesOf G [] L hp (B.idx j) (hc j)
  rwa [List.append_nil] at h

/-- A chunk over rows `o` to `o + 519` of the scratch is rows `o` to `o + 511` of the result. -/
theorem chunk_result (g : FVec Ideal S520x1536 .f32) (o : ℕ)
    (hg : ∀ (s : Fin 520) (c : Fin 1536),
      g (ix2 s c) = Gru.contrib (weights wi) (bias bi) (rows x) (o + s.val - 6) c) (z : S1x512x512.Idx) (l : ℕ)
    (d : Fin 512) (h1 : l = o + (z 1).val) (h2 : d.val = (z 2).val) :
    chunk bh wh g z = Gru.result (weights wi) (weights wh) (bias bi) (bias bh) (rows x) l d := by
  idx_vars z
  obtain rfl : z0 = 0 := Fin.ext (by omega)
  obtain rfl : d = z2 := Fin.ext h2
  obtain rfl : l = o + z1.val := h1
  have h : ∀ (s : Fin 520) (p : ℕ), o + s.val - 6 = p → row g s = Gru.contrib (weights wi) (bias bi) (rows x) p :=
    fun s p hp => funext fun c => (hg s c).trans (by rw [hp])
  rw [chunk_at, h _ (o + z1.val) (by simp only; omega), h _ (o + z1.val + 1) (by simp only; omega),
    h _ (o + z1.val + 2) (by simp only; omega), Gru.result]

end Point

variable (m : (ℓ : Loc nD τ sig) → Buf (Elt Ideal) ℓ)

/-- Row `l` of point `t`'s output block is row `l` of the result over the point's input blocks. -/
theorem point (c : Dev nD) (t : Fin cfg0.N) (l : Fin 2048) (d : Fin 512) :
    (show FVec Ideal S1x2048x512 .f32 from outsAt0 m c t) (ix3 0 l d) =
      Gru.result (weights (iblk m c 1 t)) (weights (iblk m c 2 t)) (bias (iblk m c 3 t)) (bias (iblk m c 4 t))
        (rows (iblk m c 0 t)) l.val d := by
  show outsAt0 m c t (ix3 0 l d) = _
  rw [outsAt0]; frame_out
  generalize iblk m c 0 t = x
  generalize iblk m c 1 t = wi
  generalize iblk m c 2 t = wh
  generalize iblk m c 3 t = bi
  generalize iblk m c 4 t = bh
  canon_tiles z h
  · rw [chunk_four, load_of_blocks _ (scratch x wi bi)]
    · exact chunk_result x wi wh bi bh _ 1536 (box_at x wi bi 1536 inb_S2056x1536_S520x1536_1536_0) z _ _ h1 h2
    · refine ⟨?_, ?_, ?_, ?_, ?_, trivial⟩
      · exact tile_box x wi bi _ 1536 1544 rfl (by omega) inb_S2056x1536_S512x1536_1544_0 (fun s k => by pointwise)
      · exact tile_box x wi bi _ 1024 1032 rfl (by omega) inb_S2056x1536_S512x1536_1032_0 (fun s k => by pointwise)
      · exact tile_box x wi bi _ 512 520 rfl (by omega) inb_S2056x1536_S512x1536_520_0 (fun s k => by pointwise)
      · exact tile_box x wi bi _ 0 8 rfl (by omega) inb_S2056x1536_S512x1536_8_0 (fun s k => by pointwise)
      · exact fill_box x wi bi inb_S2056x1536_S8x1536_0_0
    · intro j
      have hr := box_row 1536 520 inb_S2056x1536_S520x1536_1536_0 j
      have hj : (j 0).val < 520 := (j 0).isLt
      rcases Nat.lt_or_ge (1536 + (j 0).val) 1544 with h | h
      · exact ⟨_, .tail _ (.head _), mem_rows inb_S2056x1536_S512x1536_1032_0 _ hr (by omega) (by omega)⟩
      · exact ⟨_, .head _, mem_rows inb_S2056x1536_S512x1536_1544_0 _ hr (by omega) (by omega)⟩
  · rw [chunk_three, load_of_blocks _ (scratch x wi bi)]
    · exact chunk_result x wi wh bi bh _ 1024 (box_at x wi bi 1024 inb_S2056x1536_S520x1536_1024_0) z _ _ h1 h2
    · refine ⟨?_, ?_, ?_, ?_, ?_, trivial⟩
      · exact tile_box x wi bi _ 1536 1544 rfl (by omega) inb_S2056x1536_S512x1536_1544_0 (fun s k => by pointwise)
      · exact tile_box x wi bi _ 1024 1032 rfl (by omega) inb_S2056x1536_S512x1536_1032_0 (fun s k => by pointwise)
      · exact tile_box x wi bi _ 512 520 rfl (by omega) inb_S2056x1536_S512x1536_520_0 (fun s k => by pointwise)
      · exact tile_box x wi bi _ 0 8 rfl (by omega) inb_S2056x1536_S512x1536_8_0 (fun s k => by pointwise)
      · exact fill_box x wi bi inb_S2056x1536_S8x1536_0_0
    · intro j
      have hr := box_row 1024 520 inb_S2056x1536_S520x1536_1024_0 j
      have hj : (j 0).val < 520 := (j 0).isLt
      rcases Nat.lt_or_ge (1024 + (j 0).val) 1032 with h | h
      · exact ⟨_, .tail _ (.tail _ (.head _)), mem_rows inb_S2056x1536_S512x1536_520_0 _ hr (by omega) (by omega)⟩
      · exact ⟨_, .tail _ (.head _), mem_rows inb_S2056x1536_S512x1536_1032_0 _ hr (by omega) (by omega)⟩
  · rw [chunk_two, load_of_blocks _ (scratch x wi bi)]
    · exact chunk_result x wi wh bi bh _ 512 (box_at x wi bi 512 inb_S2056x1536_S520x1536_512_0) z _ _ h1 h2
    · refine ⟨?_, ?_, ?_, ?_, trivial⟩
      · exact tile_box x wi bi _ 1024 1032 rfl (by omega) inb_S2056x1536_S512x1536_1032_0 (fun s k => by pointwise)
      · exact tile_box x wi bi _ 512 520 rfl (by omega) inb_S2056x1536_S512x1536_520_0 (fun s k => by pointwise)
      · exact tile_box x wi bi _ 0 8 rfl (by omega) inb_S2056x1536_S512x1536_8_0 (fun s k => by pointwise)
      · exact fill_box x wi bi inb_S2056x1536_S8x1536_0_0
    · intro j
      have hr := box_row 512 520 inb_S2056x1536_S520x1536_512_0 j
      have hj : (j 0).val < 520 := (j 0).isLt
      rcases Nat.lt_or_ge (512 + (j 0).val) 520 with h | h
      · exact ⟨_, .tail _ (.tail _ (.head _)), mem_rows inb_S2056x1536_S512x1536_8_0 _ hr (by omega) (by omega)⟩
      · exact ⟨_, .tail _ (.head _), mem_rows inb_S2056x1536_S512x1536_520_0 _ hr (by omega) (by omega)⟩
  · rw [chunk_one, load_of_blocks _ (scratch x wi bi)]
    · exact chunk_result x wi wh bi bh _ 0 (box_at x wi bi 0 inb_S2056x1536_S520x1536_0_0) z _ _ (h1.trans (Nat.zero_add _).symm) h2
    · refine ⟨?_, ?_, ?_, trivial⟩
      · exact tile_box x wi bi _ 512 520 rfl (by omega) inb_S2056x1536_S512x1536_520_0 (fun s k => by pointwise)
      · exact tile_box x wi bi _ 0 8 rfl (by omega) inb_S2056x1536_S512x1536_8_0 (fun s k => by pointwise)
      · exact fill_box x wi bi inb_S2056x1536_S8x1536_0_0
    · intro j
      have hr := box_row 0 520 inb_S2056x1536_S520x1536_0_0 j
      have hj : (j 0).val < 520 := (j 0).isLt
      rcases Nat.lt_or_ge (0 + (j 0).val) 8 with h | h
      · exact ⟨_, .tail _ (.tail _ (.head _)), mem_rows inb_S2056x1536_S8x1536_0_0 _ hr (by omega) (by omega)⟩
      · exact ⟨_, .tail _ (.head _), mem_rows inb_S2056x1536_S512x1536_8_0 _ hr (by omega) (by omega)⟩

end Cert.KernelIdeal.Block

end
-- ==== Proof.Final.lean ====
/-
  The kernel's result array after all 32 grid points, as one function of its arguments.
-/
module

public import proofs.«01_k».proof.Proof.Block

@[expose] public section

set_option maxRecDepth 16384

noncomputable section

namespace Cert.KernelIdeal.Final

open Idealize.ShloMosaic Idealize.ShloMosaic.TcCoe Idealize.SL.Sem Cert.KernelIdeal Cert.KernelIdeal.Gen
open Cert.KernelIdeal.Chunk Cert.KernelIdeal.Block
open Idealize.ShloMosaic.Pipeline (Dat)

/-- The result over the five argument arrays. -/
def gru (x : FVec Ideal S32x2048x512 .f32) (wi wh : FVec Ideal S1536x512 .f32) (bi bh : FVec Ideal S1536 .f32) :
    FVec Ideal S32x2048x512 .f32 := fun y =>
  Gru.result (fun c k => wi (ix2 c k)) (fun c k => wh (ix2 c k)) (fun c => bi (ix1 c)) (fun c => bh (ix1 c))
    (fun p k => x (ix3 (y 0) p k)) (y 1).val (y 2)

variable (m : (ℓ : Loc nD τ sig) → Buf (Elt Ideal) ℓ)

/-- Where each window's block lies at grid point `t`: the input and the output at batch `t`, the others whole. -/
theorem idx : ∀ t : Fin cfg0.N, win0_0.index t = ![t.val, 0, 0] ∧ win0_1.index t = ![0, 0] ∧
    win0_2.index t = ![0, 0] ∧ win0_3.index t = ![0, 0] ∧ win0_4.index t = ![0, 0] ∧ win0_5.index t = ![t.val, 0, 0] :=
  (by decide +kernel : ∀ t : Fin grid0.N, _)

/-- The transposed input weights, read back at the argument. -/
theorem wih_T (c : Dev nD) (k : Fin 512) (a : Fin 1536) :
    (V m c main_call0_v0 : FVec Ideal S512x1536 .f32) (ix2 k a) = (m ((c : Thread nD τ).loc main_arg1) : FVec Ideal S1536x512 .f32) (ix2 a k) := by
  have h : (V m c main_call0_v0 : FVec Ideal S512x1536 .f32) = transpose S512x1536 [1, 0] (m ((c : Thread nD τ).loc main_arg1)) transposes_S1536x512_S512x1536_1_0 := by
    entry_read; rfl
  rw [h]; pointwise

/-- The transposed recurrent weights, read back at the argument. -/
theorem whh_T (c : Dev nD) (k : Fin 512) (a : Fin 1536) :
    (V m c main_call0_v1 : FVec Ideal S512x1536 .f32) (ix2 k a) = (m ((c : Thread nD τ).loc main_arg2) : FVec Ideal S1536x512 .f32) (ix2 a k) := by
  have h : (V m c main_call0_v1 : FVec Ideal S512x1536 .f32) = transpose S512x1536 [1, 0] (m ((c : Thread nD τ).loc main_arg2)) transposes_S1536x512_S512x1536_1_0 := by
    entry_read; rfl
  rw [h]; pointwise

/-- The input weights a point stages are the argument's. -/
theorem wih_in (c : Dev nD) (t : Fin cfg0.N) :
    weights (iblk m c 1 t) = fun a k => (m ((c : Thread nD τ).loc main_arg1) : FVec Ideal S1536x512 .f32) (ix2 a k) := by
  funext a k
  refine Eq.trans ?_ (wih_T m c k a)
  show iblk m c 1 t (ix2 k a) = _
  blk_ext! [iblk, idx t]

/-- The recurrent weights a point stages are the argument's. -/
theorem whh_in (c : Dev nD) (t : Fin cfg0.N) :
    weights (iblk m c 2 t) = fun a k => (m ((c : Thread nD τ).loc main_arg2) : FVec Ideal S1536x512 .f32) (ix2 a k) := by
  funext a k
  refine Eq.trans ?_ (whh_T m c k a)
  show iblk m c 2 t (ix2 k a) = _
  blk_ext! [iblk, idx t]

/-- The input bias a point stages is the argument's. -/
theorem bih_in (c : Dev nD) (t : Fin cfg0.N) :
    bias (iblk m c 3 t) = fun a => (m ((c : Thread nD τ).loc main_arg3) : FVec Ideal S1536 .f32) (ix1 a) := by
  funext a
  show iblk m c 3 t (ix2 0 a) = _
  blk_point [iblk, V, idx t]

/-- The recurrent bias a point stages is the argument's. -/
theorem bhh_in (c : Dev nD) (t : Fin cfg0.N) :
    bias (iblk m c 4 t) = fun a => (m ((c : Thread nD τ).loc main_arg4) : FVec Ideal S1536 .f32) (ix1 a) := by
  funext a
  show iblk m c 4 t (ix2 0 a) = _
  blk_point [iblk, V, idx t]

/-- The input rows a point stages are batch `t` of the argument. -/
theorem rows_in (c : Dev nD) (t : Fin cfg0.N) (b : Fin 32) (hb : b.val = t.val) :
    rows (iblk m c 0 t) = fun p k => (m ((c : Thread nD τ).loc main_arg0) : FVec Ideal S32x2048x512 .f32) (ix3 b p k) := by
  funext p k
  show iblk m c 0 t (ix3 0 p k) = _
  blk_point [iblk, V, idx t]

/-- Where the output block's element `(0, l, d)` at point `t` lies in the result: batch `t`. -/
theorem emb_out (t : Fin cfg0.N) (l : Fin 2048) (d : Fin 512) (b : Fin 32) (hb : b.val = t.val) :
    (win0_5.blk t).view.emb (ix3 0 l d) = (ix3 b l d : S32x2048x512.Idx) := by
  blk_ext [idx t]

/-- The result array after all 32 points is the recurrence over the five arguments. -/
theorem final (c : Dev nD) : (dats m 0 c).arrAt 5 cfg0.N = gru (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  obtain ⟨q, l, d, rfl⟩ : ∃ (q : Fin 1) (l : Fin 2048) (d : Fin 512), y = ix3 q l d := ⟨y 0, y 1, y 2, by funext i; fin_cases i <;> rfl⟩
  obtain rfl : q = 0 := Subsingleton.elim _ _
  have ht : t.val < 32 := t.isLt
  rw [emb_out t l d ⟨t.val, ht⟩ rfl]
  refine (point m c t l d).trans ?_
  rw [wih_in, whh_in, bih_in, bhh_in, rows_in m c t ⟨t.val, ht⟩ rfl]
  rfl

end Cert.KernelIdeal.Final

end
-- ==== Proof.RefValue.lean ====
/-
  The reference at an index: entry `(b, l, d)` of its result is three steps of the recurrence over rows `l`, `l + 1`,
  `l + 2` of the padded input's contributions.
-/
module

public import proofs.«01_k».proof.Proof.Gru
public import proofs.«01_k».proof.Proof.Gen.ReferenceIdeal.Run
public import Idealize.ShloMosaic.Lib.Tactic
public import Idealize.ShloMosaic.Lib.Tactic.CleanTypes

@[expose] public section

set_option maxRecDepth 16384

noncomputable section

namespace Cert.ReferenceIdeal.AtIndex

open Idealize.ShloMosaic Idealize.ShloMosaic.TcCoe Idealize.SL.Sem Idealize.ShloMosaic.StableHlo Cert.ReferenceIdeal Cert.ReferenceIdeal.Gen Cert.ReferenceIdeal.Value

variable (V : Valuation τ sig (Elt Ideal))

/-- The input array. -/
abbrev arr : FVec Ideal S32x2048x512 .f32 := V (Proc.devRef .tc main_arg0)
/-- The input weights. -/
abbrev wih : FVec Ideal S1536x512 .f32 := V (Proc.devRef .tc main_arg1)
/-- The recurrent weights. -/
abbrev whh : FVec Ideal S1536x512 .f32 := V (Proc.devRef .tc main_arg2)
/-- The input bias. -/
abbrev bih : FVec Ideal S1536 .f32 := V (Proc.devRef .tc main_arg3)
/-- The recurrent bias. -/
abbrev bhh : FVec Ideal S1536 .f32 := V (Proc.devRef .tc main_arg4)

/-- The input's contributions, all 2050 rows of them. -/
abbrev gi : FVec Ideal S32x2050x1536 .f32 := res_main_v4 V
/-- The state after the first step. -/
abbrev state1 : FVec Ideal S32x2048x512 .f32 := res_main_v38 V
/-- The state after the second step. -/
abbrev state2 : FVec Ideal S32x2048x512 .f32 := res_main_v71 V

/-- The input weights by row and column. -/
abbrev Wi : Fin 1536 → Fin 512 → EReal := fun c k => wih V (ix2 c k)
/-- The recurrent weights by row and column. -/
abbrev Wh : Fin 1536 → Fin 512 → EReal := fun c k => whh V (ix2 c k)
/-- The input bias by column. -/
abbrev bi : Fin 1536 → EReal := fun c => bih V (ix1 c)
/-- The recurrent bias by column. -/
abbrev bh : Fin 1536 → EReal := fun c => bhh V (ix1 c)
/-- Batch `n` of the input by row and column. -/
abbrev batch (n : Fin 32) : Fin 2048 → Fin 512 → EReal := fun p k => arr V (ix3 n p k)

/-- The input's contributions at row `p` of the padded input of batch `n`. -/
theorem gi_at (n : Fin 32) (p : Fin 2050) (c : Fin 1536) :
    gi V (ix3 n p c) = Gru.contrib (Wi V) (bi V) (batch V n) p.val c := by
  unfold gi res_main_v4
  clean_types
  pointwise [Gru.proj, Gru.contrib, Gru.padRow]
  refine congrArg (· + bi V c) (Finset.sum_congr rfl fun k _ => congrArg (· * Wi V c k) ?_)
  have hz : (FloatOps.sitofp FTy.f32 0#32 : Ideal .f32) = 0 := by
    show (((BitVec.toInt 0#32 : ℤ) : ℝ) : EReal) = 0
    simp
  by_cases h : 2 ≤ p.val
  · rw [dif_pos ⟨h, by omega⟩, dif_pos h]
  · rw [dif_neg (fun hh => h hh.1), dif_neg h, hz]

/-- The state after the first step, at row `l` of batch `n`. -/
theorem state1_at (n : Fin 32) (l : Fin 2048) (d : Fin 512) :
    state1 V (ix3 n l d) = Gru.start (bh V) (fun c => gi V (ix3 n ⟨l.val, by omega⟩ c)) d := by
  rw [← Gru.step_zero (Wh V)]
  unfold state1 res_main_v38 res_main_v30 res_main_v10 res_main_v6 res_main_v5
  clean_types
  pointwise [Gru.proj, Gru.step, Gru.cell, Gru.gate, Gru.col]
  rfl

/-- The state after the second step, at row `l` of batch `n`: one step over row `l + 1`. -/
theorem state2_at (n : Fin 32) (l : Fin 2048) (d : Fin 512) :
    state2 V (ix3 n l d) = Gru.step (Wh V) (bh V) (fun c => gi V (ix3 n ⟨1 + l.val, by omega⟩ c))
      (fun k => state1 V (ix3 n l k)) d := by
  unfold state2 res_main_v71 res_main_v63 res_main_v43 res_main_v39
  clean_types
  pointwise [Gru.proj, Gru.step, Gru.cell, Gru.gate, Gru.col]
  rfl

/-- The reference's result, as the term over the named stages that its run states. -/
def out : FVec Ideal S32x2048x512 .f32 :=
  addf (mulf (subf (broadcastInDim S32x2048x512 ![] bcast_S_S32x2048x512 (constant S_ .f32 0x3F800000#32)) (res_main_v96 V)) (Host.tanh (addf (extractStridedSlice S32x2048x512 ![0, 0, 1024] (res_main_v72 V) slices_S32x2048x1536_S32x2048x512_0_0_1024) (mulf (Host.divf (broadcastInDim S32x2048x512 ![] bcast_S_S32x2048x512 (constant S_ .f32 0x3F800000#32)) (addf (broadcastInDim S32x2048x512 ![] bcast_S_S32x2048x512 (constant S_ .f32 0x3F800000#32)) (Host.exp (Host.negf (addf (extractStridedSlice S32x2048x512 ![0, 0, 0] (res_main_v72 V) slices_S32x2048x1536_S32x2048x512_0_0_0) (extractStridedSlice S32x2048x512 ![0, 0, 0] (res_main_v76 V) slices_S32x2048x1536_S32x2048x512_0_0_0)))))) (extractStridedSlice S32x2048x512 ![0, 0, 1024] (res_main_v76 V) slices_S32x2048x1536_S32x2048x512_0_0_1024))))) (mulf (res_main_v96 V) (res_main_v71 V))

/-- The reference's result at row `l` of batch `n`: one step over row `l + 2`. -/
theorem out_at (n : Fin 32) (l : Fin 2048) (d : Fin 512) :
    out V (ix3 n l d) = Gru.step (Wh V) (bh V) (fun c => gi V (ix3 n ⟨2 + l.val, by omega⟩ c))
      (fun k => state2 V (ix3 n l k)) d := by
  unfold out res_main_v96 res_main_v76 res_main_v72
  clean_types
  pointwise [Gru.proj, Gru.step, Gru.cell, Gru.gate, Gru.col]
  rfl

/-- The reference's result at an index is the recurrence over three rows of the padded input. -/
theorem out_eq (n : Fin 32) (l : Fin 2048) (d : Fin 512) :
    out V (ix3 n l d) = Gru.result (Wi V) (Wh V) (bi V) (bh V) (batch V n) l.val d := by
  rw [out_at, funext fun k => state2_at V n l k, funext fun k => state1_at V n l k,
    funext fun c => gi_at V n ⟨l.val, by omega⟩ c, funext fun c => gi_at V n ⟨1 + l.val, by omega⟩ c,
    funext fun c => gi_at V n ⟨2 + l.val, by omega⟩ c, Gru.result, Gru.window]
  simp only [Nat.add_comm]

end Cert.ReferenceIdeal.AtIndex

end
-- ==== Proof.lean ====
/-
  The five claims about the windowed GRU kernel, which holds at each row the last state of a recurrence over three
  rows. The kernel's program runs and keeps its arguments, and so do its idealization and the reference. The
  idealization is the kernel's own text. From equal arguments it computes, at extended reals, what the reference does.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Final
public import proofs.«01_k».proof.Proof.RefValue
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The kernel's program, at the device's floats, runs, keeps its arguments and ends with every counter at zero. -/
theorem frame_P : Cert.quiescent_Kernel := fun m ρ _ => Cert.Kernel.Gen.frame m ρ

/-- The same at extended reals. -/
theorem frame_PI : Cert.quiescent_KernelIdeal := fun m ρ _ => Cert.KernelIdeal.Gen.frame m ρ

/-- The reference at extended reals runs, keeps its arguments and ends with every counter at zero. -/
theorem frame_RI : Cert.quiescent_ReferenceIdeal := fun m ρ _ =>
  θ_run_mono (Cert.ReferenceIdeal.Value.run m ρ) fun r h => ⟨fun c => (h c).2, sem_eq_zero_of_no_sems (by decide) r.2⟩

/-- The reference's result is the recurrence over its five arguments. -/
theorem reference_value (m : (ℓ : Loc Cert.ReferenceIdeal.nD Cert.ReferenceIdeal.τ Cert.ReferenceIdeal.sig) → Buf (Elt Ideal) ℓ)
    (c : Dev Cert.ReferenceIdeal.nD) :
    Cert.ReferenceIdeal.AtIndex.out (StableHlo.launchContents m c) = Cert.KernelIdeal.Final.gru
      (m (c.tc.loc Cert.ReferenceIdeal.main_arg0)) (m (c.tc.loc Cert.ReferenceIdeal.main_arg1))
      (m (c.tc.loc Cert.ReferenceIdeal.main_arg2)) (m (c.tc.loc Cert.ReferenceIdeal.main_arg3))
      (m (c.tc.loc Cert.ReferenceIdeal.main_arg4)) := by
  funext y
  obtain ⟨n, l, d, rfl⟩ : ∃ (n : Fin 32) (l : Fin 2048) (d : Fin 512), y = ix3 n l d :=
    ⟨y 0, y 1, y 2, by funext i; fin_cases i <;> rfl⟩
  exact Cert.ReferenceIdeal.AtIndex.out_eq _ n l d

/-- The kernel's idealization and the reference's, from equal arguments, end with equal results. -/
theorem equal_results : Cert.algebraic_KernelIdeal_ReferenceIdeal := by
  pair_intro
  · run_from Cert.KernelIdeal.Value.run_blocks m g
  · run_from Cert.ReferenceIdeal.Value.run m' g'
    obtain ⟨h0, h1, h2, h3, h4⟩ := hagree c
    refine (reference_value m' c).trans ?_
    rw [Cert.KernelIdeal.Final.final, ← h0, ← h1, ← h2, ← h3, ← h4]

/-- Everything claimed of the kernel, its idealization and the reference. -/
theorem claim : Cert.Claim := ⟨Cert.Kernel.Gen.facts, Cert.KernelIdeal.Gen.facts, Cert.ReferenceIdeal.Gen.facts,
  frame_P, frame_PI, frame_RI, trivial, equal_results⟩

end Cert.Proof

end
